-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x512 : Shape := ⟨2, ![100000, 512]⟩
abbrev S100000 : Shape := ⟨1, ![100000]⟩
abbrev S_ : Shape := ⟨0, ![]⟩
abbrev S1x256 : Shape := ⟨2, ![1, 256]⟩
abbrev S20x1x5000 : Shape := ⟨3, ![20, 1, 5000]⟩
abbrev S20x1x5120 : Shape := ⟨3, ![20, 1, 5120]⟩
abbrev S800x128 : Shape := ⟨2, ![800, 128]⟩
abbrev S5000x512 : Shape := ⟨2, ![5000, 512]⟩
abbrev S1x128 : Shape := ⟨2, ![1, 128]⟩
abbrev S8x128 : Shape := ⟨2, ![8, 128]⟩
abbrev S8x128x1 : Shape := ⟨3, ![8, 128, 1]⟩
abbrev S1x5120 : Shape := ⟨2, ![1, 5120]⟩
abbrev S1x5000 : Shape := ⟨2, ![1, 5000]⟩
abbrev S1x1 : Shape := ⟨2, ![1, 1]⟩
abbrev S5000x1 : Shape := ⟨2, ![5000, 1]⟩

abbrev nBuf : Space → Nat
  | .hbm => 10
  | .vmem => 6
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S_, .f32⟩
  | .hbm, ⟨3, _⟩ => ⟨S1x256, .f32⟩
  | .hbm, ⟨4, _⟩ => ⟨S20x1x5000, .i32⟩
  | .hbm, ⟨5, _⟩ => ⟨S_, .i32⟩
  | .hbm, ⟨6, _⟩ => ⟨S_, .i32⟩
  | .hbm, ⟨7, _⟩ => ⟨S20x1x5120, .i32⟩
  | .hbm, ⟨8, _⟩ => ⟨S800x128, .i32⟩
  | .hbm, ⟨9, _⟩ => ⟨S100000x512, .f32⟩
  | .local _ .vmem, ⟨0, _⟩ => ⟨S800x128, .i32⟩
  | .local _ .vmem, ⟨1, _⟩ => ⟨S1x256, .f32⟩
  | .local _ .vmem, ⟨2, _⟩ => ⟨S5000x512, .f32⟩
  | .local _ .vmem, ⟨3, _⟩ => ⟨S5000x512, .f32⟩
  | .local _ .vmem, ⟨4, _⟩ => ⟨S5000x512, .f32⟩
  | .local _ .vmem, ⟨5, _⟩ => ⟨S5000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_call0_v0 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def k0_off1 (i : grid0.Coords) (c0_i32 : BitVec 32) : Fin 2 → Nat :=
  let arg0 : BitVec 32 := BitVec.ofNat 32 (i 0).val
  let c40_i32 : BitVec 32 := 40#32
  let v8 : BitVec 32 := Scalar.muli arg0 c40_i32
  let v9 : BitVec 32 := Scalar.addi v8 c0_i32
  let v10 : Index := Scalar.indexCast v9
  let c0_2 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S800x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S100000x512 : Shape := ⟨2, ![100000, 512]⟩
abbrev S100000 : Shape := ⟨1, ![100000]⟩

abbrev nBuf : Space → Nat
  | .hbm => 2
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]
-- ==== Proof.Const.lean ====
/- Two vector operations on arrays that hold one value throughout.

   The table of keep factors that the host builds holds one value, 1 / keep_prob = 1. The operations between that table and the
   multiply by `x` only re-read its elements, so each takes a constant array to a constant array. The ones below are those the
   body's proof rewrites by; the others (a broadcast, a gather along the lanes) hold by computation. -/
module

public import Idealize.ShloMosaic.PureOps
public import Idealize.ShloMosaic.PureOps.Ideal

@[expose] public section

noncomputable section

namespace Cert.Const

open Idealize.ShloMosaic

variable {α : Type} {s : Shape}

/-- A slice of a constant array is constant. -/
theorem slice_const (t : Shape) (off : Fin s.rank → Nat) (v : α) (h : s.Slices off t) :
    extractStridedSlice t off (fun _ : s.Idx => v) h = fun _ => v := rfl

/-- Arrays that all hold the constant `v`, laid side by side, hold `v`. -/
theorem concatenate_const (t : Shape) (a : Fin t.rank) (v : α) (xs : List ((s : Shape) × (s.Idx → α)))
    (h : Shape.Concatenates (xs.map (·.1)) t a) (hv : ∀ p ∈ xs, p.2 = fun _ => v) :
    concatenate t a xs h = fun _ => v := by
  funext j
  unfold concatenate
  dsimp only
  rw [hv _ (List.getElem_mem _)]

end Cert.Const

end
-- ==== Proof.Body.lean ====
/- What one grid point's body leaves in the result's block, where the table of keep factors holds 1 throughout.

   The body reads forty rows of graph numbers, looks each number's factor up in the table, lays the forty rows of factors side by
   side, turns the row into a column and multiplies the block of `x` by it. A table of ones gives a column of ones, whatever the
   graph numbers are, so the block of the result is the block of `x`. -/
module

public import proofs.«01_k».proof.Proof.Const
public import proofs.«01_k».proof.Proof.Gen.KernelIdeal.Value
public import Idealize.ShloMosaic.Lib.Pipeline.ValueKit
public import Idealize.ShloMosaic.Lib.IdealHost

@[expose] public section

noncomputable section

namespace Cert.KernelIdeal.Body

open Cert.KernelIdeal Cert.KernelIdeal.Gen Cert.Const
open Idealize.ShloMosaic Idealize.ShloMosaic.TcCoe Idealize.ShloMosaic.ValueIdx Idealize.SL.Sem

/-- The last step at the ideal instance: a row of ones, turned into a column and multiplied into the block of `x`, gives the block
    of `x`. The product with the 1×1 matrix of one is, at each element, zero plus the one term 1 · 1. -/
theorem scale_ones (x : Vec Ideal S5000x512 .f32) : k0_pay3 (F := Ideal) (fun _ => (1 : EReal)) x = x := by
  unfold k0_pay3
  dsimp only
  rw [slice_const]
  funext j
  unfold mulf broadcastTo matmul
  dsimp only
  have contr : dot_S1x5000_S1x1_S5000x1_0_0_1_1_n_n.contr.Idx ≃ Fin 1 := contrEquiv1 _ 1 rfl rfl
  rw [Ideal.matmul_apply, ← contr.symm.sum_comp]
  simp only [Fin.sum_univ_one, broadcast, constant, Ideal.ofBits_def, Ideal.ofBits_one_f32, Ideal.ofBits_zero_f32, Ideal.mulf_def,
    mul_one, zero_add]

/-- Where the table `x1` holds 1 throughout, the body leaves the block `x2` of `x` in the result's block: for any graph numbers `x0`. -/
theorem out_eq (c : Dev nD) (i : grid0.Coords) (arg1 : Memref sig .tc .vmem S800x128 .i32) (harg1 : arg1.IsWhole)
    (arg2 : Memref sig .tc .vmem S1x256 .f32) (harg2 : arg2.IsWhole) (arg3 : Memref sig .tc .vmem S5000x512 .f32) (harg3 : arg3.IsWhole)
    (arg4 : Memref sig .tc .vmem S5000x512 .f32) (harg4 : arg4.IsWhole)
    (x0 : Vec Ideal S800x128 .i32) (x1 : Vec Ideal S1x256 .f32) (x2 : Vec Ideal S5000x512 .f32) (h1 : x1 = fun _ => (1 : EReal)) :
    out0_A_3 c i arg1 harg1 arg2 harg2 arg3 harg3 arg4 harg4 x0 x1 x2 = x2 := by
  unfold out0_A_3
  frame_out
  subst h1
  refine Eq.trans (congrArg (fun v => k0_pay3 (F := Ideal) v x2) ?_) (scale_ones x2)
  have lo (v : Vec Ideal S1x128 .f32) (h : v = fun _ => (1 : EReal)) : k0_pay4 (F := Ideal) v = fun _ => (1 : EReal) := by
    subst h; rfl
  have hi (v : Vec Ideal S1x128 .f32) (h : v = fun _ => (1 : EReal)) : k0_pay5 (F := Ideal) v = fun _ => (1 : EReal) := by
    subst h; rfl
  rw [lo, hi] <;> try rfl
  unfold k0_pay2
  -- Each of the forty pieces is a choice, at every element, between two entries of the table: between one and one.
  refine concatenate_const _ _ _ _ _ ?_
  simp only [List.forall_mem_cons]
  repeat' apply And.intro
  all_goals first
    | exact fun _ h => absurd h List.not_mem_nil
    | exact funext fun _ => ite_self _

end Cert.KernelIdeal.Body

end
-- ==== Proof.Array.lean ====
/- The result array after the whole grid has run: the argument `x`, element for element.

   The host fills the table of keep factors with one; each of the twenty grid points reads that table, and `Body.out_eq` says that
   its block of the result is then its block of `x`. The blocks of `x` and of the result lie at the same places and cover the array. -/
module

public import proofs.«01_k».proof.Proof.Body

@[expose] public section

noncomputable section

namespace Cert.KernelIdeal.Array

open Cert.KernelIdeal Cert.KernelIdeal.Gen Cert.KernelIdeal.Body
open Idealize.ShloMosaic Idealize.ShloMosaic.TcCoe Idealize.ShloMosaic.ValueKit Idealize.SL.Sem

variable (m : (ℓ : Loc nD τ sig) → Buf (Elt Ideal) ℓ)

/-- The host's table of keep factors holds one at every index. -/
theorem table (c : Dev nD) : V m c main_call0_v0 = fun _ => (1 : EReal) := by
  unfold_abbrev_sides
  after_results
  exact funext fun _ => Ideal.ofBits_one_f32

/-- What a grid point reads of the table: ones. -/
theorem table_block (c : Dev nD) (t : Fin cfg0.N) : iblk m c 1 t = fun _ => (1 : EReal) := by
  funext y
  blk_simp [iblk]
  rw [table m c]

/-- The result array after the run is the argument `x`. -/
theorem final (c : Dev nD) : (Gen.dats m 0 c).arrAt 3 cfg0.N = m ((c : Thread nD τ).loc main_arg0) := by
  refine (Gen.dats m 0 c).arrAt_eq_of_covers 3 _ (by decide +kernel) fun t _ y => ?_
  blk_simp
  rw [after0_3, outsAt0, out_eq _ _ _ _ _ _ _ _ _ _ _ _ _ (table_block m c t)]
  blk_simp [iblk]
  rw [V_main_arg0 m c]
  rfl

end Cert.KernelIdeal.Array

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Array
public import Idealize.ShloMosaic.Lib.Claim
public import Idealize.ShloMosaic.Lib.StableHlo.RunHlo
public import Idealize.ShloMosaic.Adequacy
public import Idealize.ShloMosaic.Init

@[expose] public section

noncomputable section

namespace Cert.Proof

open Idealize.ShloMosaic Idealize.SL.Sem Cert.Kernel

/-- The reference has no operation: it ends with its arguments as launched and every semaphore counter at zero. -/
theorem reference_frame : Cert.quiescent_ReferenceIdeal (hReferenceIdeal := Cert.ReferenceIdeal.Gen.facts) := by
  intro m g _
  hlo_run
  · exact fun _ => ⟨trivial, trivial⟩
  · exact sem_eq_zero_of_no_sems (by decide) _

/-- The kernel's result is its argument `x`, which is what the reference returns. -/
theorem value : Cert.algebraic_KernelIdeal_ReferenceIdeal (hKernelIdeal := Cert.KernelIdeal.Gen.facts)
    (hReferenceIdeal := Cert.ReferenceIdeal.Gen.facts) := by
  intro m g m' g' _ hargs
  refine ⟨fun c => m ((c.tc : Thread Cert.KernelIdeal.nD Cert.KernelIdeal.τ).loc Cert.KernelIdeal.main_arg0), ?_, ?_⟩
  · exact θ_run_mono (Cert.KernelIdeal.Value.run_blocks m g) fun r h c =>
      ⟨(h c).1.trans (Cert.KernelIdeal.Array.final m c), (h c).2⟩
  · hlo_run
    exact (hargs c).1

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, value⟩

end Cert.Proof

end
